-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables_finite [hPre_tables_finite : Cert.Pre_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_finite [hPre_tables_finite : Cert.Pre_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tables_finite [hKernelIdeal : Cert.KernelIdeal.Facts] [hPre_tables_finite : Cert.Pre_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tables_finite [hReferenceIdeal : Cert.ReferenceIdeal.Facts] [hPre_tables_finite : Cert.Pre_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tables_finite [hKernelIdeal : Cert.KernelIdeal.Facts] [hReferenceIdeal : Cert.ReferenceIdeal.Facts] [hPre_tables_finite : Cert.Pre_tables_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tables_finite : Cert.Pre_tables_finite.Facts),
    quiescent_Kernel (hKernel := hKernel)
    ∧ quiescent_KernelIdeal (hKernelIdeal := hKernelIdeal)
    ∧ quiescent_KernelIdeal_pre_tables_finite (hKernelIdeal := hKernelIdeal) (hPre_tables_finite := hPre_tables_finite)
    ∧ quiescent_ReferenceIdeal (hReferenceIdeal := hReferenceIdeal)
    ∧ quiescent_ReferenceIdeal_pre_tables_finite (hReferenceIdeal := hReferenceIdeal) (hPre_tables_finite := hPre_tables_finite)
    ∧ preserves_Kernel_KernelIdeal
    ∧ algebraic_KernelIdeal_ReferenceIdeal_pre_tables_finite (hKernelIdeal := hKernelIdeal) (hReferenceIdeal := hReferenceIdeal) (hPre_tables_finite := hPre_tables_finite)
-- ==== Pre_tables_finite.lean ====
abbrev S16x200x256x64 : Shape := ⟨4, ![16, 200, 256, 64]⟩
abbrev S16x200x256 : Shape := ⟨3, ![16, 200, 256]⟩
abbrev S16x200 : Shape := ⟨2, ![16, 200]⟩
abbrev S2x16 : Shape := ⟨2, ![2, 16]⟩
abbrev S33x16 : Shape := ⟨2, ![33, 16]⟩
abbrev S16x1 : Shape := ⟨2, ![16, 1]⟩
abbrev S16 : Shape := ⟨1, ![16]⟩
abbrev S64x112 : Shape := ⟨2, ![64, 112]⟩
abbrev S64 : Shape := ⟨1, ![64]⟩
abbrev S_ : Shape := ⟨0, ![]⟩
abbrev S1x16 : Shape := ⟨2, ![1, 16]⟩
abbrev S64x16 : Shape := ⟨2, ![64, 16]⟩

class Facts : Prop where
  bcast_S_S16x200 : S_.BroadcastsInDim S16x200 (![] : Fin 0 → Fin S16x200.rank)
  slices_S2x16_S1x16_0_0 : S2x16.Slices ![0, 0] S1x16
  bcast_S_S1x16 : S_.BroadcastsInDim S1x16 (![] : Fin 0 → Fin S1x16.rank)
  bcast_S_S16x1 : S_.BroadcastsInDim S16x1 (![] : Fin 0 → Fin S16x1.rank)
  slices_S64x112_S64x16_0_64 : S64x112.Slices ![0, 64] S64x16
  bcast_S_S64x16 : S_.BroadcastsInDim S64x16 (![] : Fin 0 → Fin S64x16.rank)
  slices_S64x112_S64x16_0_96 : S64x112.Slices ![0, 96] S64x16

variable [Facts]

def fn {F : FTy → Type} [FloatOps F] (main_arg0 : FVec F S16x200x256x64 .f32) (main_arg1 : IVec S16x200x256 1) (main_arg2 : IVec S16x200x256 32) (main_arg3 : FVec F S16x200 .f32) (main_arg4 : FVec F S2x16 .f32) (main_arg5 : FVec F S33x16 .f32) (main_arg6 : FVec F S16x1 .f32) (main_arg7 : FVec F S16 .f32) (main_arg8 : FVec F S64x112 .f32) (main_arg9 : FVec F S64 .f32) : IVec S16x200 1 × IVec S1x16 1 × IVec S16x1 1 × IVec S64x16 1 × IVec S64x16 1 :=
  let main_v0 : FVec F S16x200 .f32 := Host.absf main_arg3
  let main_cst : FVec F S_ .f32 := constant S_ .f32 0x7F800000#32
  let main_v1 : FVec F S16x200 .f32 := broadcastInDim S16x200 ![] bcast_S_S16x200 main_cst
  let main_v2 : IVec S16x200 1 := cmpf .olt main_v0 main_v1
  let main_v3 : FVec F S1x16 .f32 := (extractStridedSlice S1x16 ![0, 0] · slices_S2x16_S1x16_0_0) main_arg4
  let main_v4 : FVec F S1x16 .f32 := Host.absf main_v3
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_v7 : FVec F S16x1 .f32 := Host.absf main_arg6
  let main_cst_1 : FVec F S_ .f32 := constant S_ .f32 0x7F800000#32
  let main_v8 : FVec F S16x1 .f32 := broadcastInDim S16x1 ![] bcast_S_S16x1 main_cst_1
  let main_v9 : IVec S16x1 1 := cmpf .olt main_v7 main_v8
  let main_v10 : FVec F S64x16 .f32 := (extractStridedSlice S64x16 ![0, 64] · slices_S64x112_S64x16_0_64) main_arg8
  let main_v11 : FVec F S64x16 .f32 := Host.absf main_v10
  let main_cst_2 : FVec F S_ .f32 := constant S_ .f32 0x7F800000#32
  let main_v12 : FVec F S64x16 .f32 := broadcastInDim S64x16 ![] bcast_S_S64x16 main_cst_2
  let main_v13 : IVec S64x16 1 := cmpf .olt main_v11 main_v12
  let main_v14 : FVec F S64x16 .f32 := (extractStridedSlice S64x16 ![0, 96] · slices_S64x112_S64x16_0_96) main_arg8
  let main_v15 : FVec F S64x16 .f32 := Host.absf main_v14
  let main_cst_3 : FVec F S_ .f32 := constant S_ .f32 0x7F800000#32
  let main_v16 : FVec F S64x16 .f32 := broadcastInDim S64x16 ![] bcast_S_S64x16 main_cst_3
  let main_v17 : IVec S64x16 1 := cmpf .olt main_v15 main_v16
  (main_v2, main_v6, main_v9, main_v13, main_v17)
-- ==== Kernel.lean ====
abbrev S16x200x256x64 : Shape := ⟨4, ![16, 200, 256, 64]⟩
abbrev S16x200x256 : Shape := ⟨3, ![16, 200, 256]⟩
abbrev S16x200 : Shape := ⟨2, ![16, 200]⟩
abbrev S2x16 : Shape := ⟨2, ![2, 16]⟩
abbrev S33x16 : Shape := ⟨2, ![33, 16]⟩
abbrev S16x1 : Shape := ⟨2, ![16, 1]⟩
abbrev S16 : Shape := ⟨1, ![16]⟩
abbrev S64x112 : Shape := ⟨2, ![64, 112]⟩
abbrev S64 : Shape := ⟨1, ![64]⟩
abbrev S16x200x64x256 : Shape := ⟨4, ![16, 200, 64, 256]⟩
abbrev S16x1x200 : Shape := ⟨3, ![16, 1, 200]⟩
abbrev S64x64 : Shape := ⟨2, ![64, 64]⟩
abbrev S64x16 : Shape := ⟨2, ![64, 16]⟩
abbrev S64x1 : Shape := ⟨2, ![64, 1]⟩
abbrev S64x49 : Shape := ⟨2, ![64, 49]⟩
abbrev S1x16 : Shape := ⟨2, ![1, 16]⟩
abbrev S_ : Shape := ⟨0, ![]⟩
abbrev S1x1 : Shape := ⟨2, ![1, 1]⟩
abbrev S1x17 : Shape := ⟨2, ![1, 17]⟩
abbrev S1x1x200 : Shape := ⟨3, ![1, 1, 200]⟩
abbrev S1x200x256 : Shape := ⟨3, ![1, 200, 256]⟩
abbrev S1x200x64x256 : Shape := ⟨4, ![1, 200, 64, 256]⟩
abbrev S33x17 : Shape := ⟨2, ![33, 17]⟩
abbrev S33x49 : Shape := ⟨2, ![33, 49]⟩
abbrev S1x33 : Shape := ⟨2, ![1, 33]⟩
abbrev S1x49 : Shape := ⟨2, ![1, 49]⟩
abbrev S1x32 : Shape := ⟨2, ![1, 32]⟩
abbrev S36x49 : Shape := ⟨2, ![36, 49]⟩
abbrev S64x36 : Shape := ⟨2, ![64, 36]⟩
abbrev S200x256 : Shape := ⟨2, ![200, 256]⟩
abbrev S33x256 : Shape := ⟨2, ![33, 256]⟩
abbrev S1x256 : Shape := ⟨2, ![1, 256]⟩
abbrev S1x1x1 : Shape := ⟨3, ![1, 1, 1]⟩
abbrev S36x256 : Shape := ⟨2, ![36, 256]⟩
abbrev S1x1x64x256 : Shape := ⟨4, ![1, 1, 64, 256]⟩
abbrev S64x256 : Shape := ⟨2, ![64, 256]⟩

abbrev nBuf : Space → Nat
  | .hbm => 29
  | .vmem => 16
  | .smem => 0
  | _ => 0

abbrev bufTy : (tb : Table) → Fin (tcTables nBuf tb) → BufTy
  | .hbm, ⟨0, _⟩ => ⟨S16x200x256x64, .f32⟩
  | .hbm, ⟨1, _⟩ => ⟨S16x200x256, .i1⟩
  | .hbm, ⟨2, _⟩ => ⟨S16x200x256, .i32⟩
  | .hbm, ⟨3, _⟩ => ⟨S16x200, .f32⟩
  | .hbm, ⟨4, _⟩ => ⟨S2x16, .f32⟩
  | .hbm, ⟨5, _⟩ => ⟨S33x16, .f32⟩
  | .hbm, ⟨6, _⟩ => ⟨S16x1, .f32⟩
  | .hbm, ⟨7, _⟩ => ⟨S16, .f32⟩
  | .hbm, ⟨8, _⟩ => ⟨S64x112, .f32⟩
  | .hbm, ⟨9, _⟩ => ⟨S64, .f32⟩
  | .hbm, ⟨10, _⟩ => ⟨S16x200x64x256, .f32⟩
  | .hbm, ⟨11, _⟩ => ⟨S16x1x200, .f32⟩
  | .hbm, ⟨12, _⟩ => ⟨S64x64, .f32⟩
  | .hbm, ⟨13, _⟩ => ⟨S64x16, .f32⟩
  | .hbm, ⟨14, _⟩ => ⟨S64x16, .f32⟩
  | .hbm, ⟨15, _⟩ => ⟨S64x16, .f32⟩
  | .hbm, ⟨16, _⟩ => ⟨S64x1, .f32⟩
  | .hbm, ⟨17, _⟩ => ⟨S64x49, .f32⟩
  | .hbm, ⟨18, _⟩ => ⟨S1x16, .f32⟩
  | .hbm, ⟨19, _⟩ => ⟨S_, .f32⟩
  | .hbm, ⟨20, _⟩ => ⟨S1x1, .f32⟩
  | .hbm, ⟨21, _⟩ => ⟨S1x17, .f32⟩
  | .hbm, ⟨22, _⟩ => ⟨S1x16, .f32⟩
  | .hbm, ⟨23, _⟩ => ⟨S_, .f32⟩
  | .hbm, ⟨24, _⟩ => ⟨S1x1, .f32⟩
  | .hbm, ⟨25, _⟩ => ⟨S1x17, .f32⟩
  | .hbm, ⟨26, _⟩ => ⟨S16x200x256, .i32⟩
  | .hbm, ⟨27, _⟩ => ⟨S16x200x64x256, .f32⟩
  | .hbm, ⟨28, _⟩ => ⟨S16x200x256x64, .f32⟩
  | .local _ .vmem, ⟨0, _⟩ => ⟨S1x1x200, .f32⟩
  | .local _ .vmem, ⟨1, _⟩ => ⟨S1x1x200, .f32⟩
  | .local _ .vmem, ⟨2, _⟩ => ⟨S1x200x256, .i32⟩
  | .local _ .vmem, ⟨3, _⟩ => ⟨S1x200x256, .i32⟩
  | .local _ .vmem, ⟨4, _⟩ => ⟨S1x200x256, .i32⟩
  | .local _ .vmem, ⟨5, _⟩ => ⟨S1x200x256, .i32⟩
  | .local _ .vmem, ⟨6, _⟩ => ⟨S1x200x64x256, .f32⟩
  | .local _ .vmem, ⟨7, _⟩ => ⟨S1x200x64x256, .f32⟩
  | .local _ .vmem, ⟨8, _⟩ => ⟨S2x16, .f32⟩
  | .local _ .vmem, ⟨9, _⟩ => ⟨S33x16, .f32⟩
  | .local _ .vmem, ⟨10, _⟩ => ⟨S1x17, .f32⟩
  | .local _ .vmem, ⟨11, _⟩ => ⟨S1x17, .f32⟩
  | .local _ .vmem, ⟨12, _⟩ => ⟨S64x64, .f32⟩
  | .local _ .vmem, ⟨13, _⟩ => ⟨S64x49, .f32⟩
  | .local _ .vmem, ⟨14, _⟩ => ⟨S1x200x64x256, .f32⟩
  | .local _ .vmem, ⟨15, _⟩ => ⟨S1x200x64x256, .f32⟩
  | _, _ => ⟨S16x200x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

abbrev stage0_0 : Fin 2 → Memref sig .tc .vmem S1x1x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x200x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x200x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S33x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x17 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x17 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x49 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x200x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x200x256x64 : Shape := ⟨4, ![16, 200, 256, 64]⟩
abbrev S16x200x256 : Shape := ⟨3, ![16, 200, 256]⟩
abbrev S16x200 : Shape := ⟨2, ![16, 200]⟩
abbrev S2x16 : Shape := ⟨2, ![2, 16]⟩
abbrev S33x16 : Shape := ⟨2, ![33, 16]⟩
abbrev S16x1 : Shape := ⟨2, ![16, 1]⟩
abbrev S16 : Shape := ⟨1, ![16]⟩
abbrev S64x112 : Shape := ⟨2, ![64, 112]⟩
abbrev S64 : Shape := ⟨1, ![64]⟩
abbrev S_ : Shape := ⟨0, ![]⟩
abbrev S16x200x256x1 : Shape := ⟨4, ![16, 200, 256, 1]⟩
abbrev S1 : Shape := ⟨1, ![1]⟩
abbrev S1x1x1x1 : Shape := ⟨4, ![1, 1, 1, 1]⟩
abbrev S16x200x256x16 : Shape := ⟨4, ![16, 200, 256, 16]⟩
abbrev S16x200x1x1 : Shape := ⟨4, ![16, 200, 1, 1]⟩
abbrev S1x16 : Shape := ⟨2, ![1, 16]⟩
abbrev S1x1x1x16 : Shape := ⟨4, ![1, 1, 1, 16]⟩
abbrev S16x200x256x112 : Shape := ⟨4, ![16, 200, 256, 112]⟩
abbrev S112x64 : Shape := ⟨2, ![112, 64]⟩
abbrev S1x1x1x64 : Shape := ⟨4, ![1, 1, 1, 64]⟩

abbrev nBuf : Space → Nat
  | .hbm => 78
  | .vmem => 0
  | .smem => 0
  | _ => 0

abbrev bufTy : (tb : Table) → Fin (tcTables nBuf tb) → BufTy
  | .hbm, ⟨0, _⟩ => ⟨S16x200x256x64, .f32⟩
  | .hbm, ⟨1, _⟩ => ⟨S16x200x256, .i1⟩
  | .hbm, ⟨2, _⟩ => ⟨S16x200x256, .i32⟩
  | .hbm, ⟨3, _⟩ => ⟨S16x200, .f32⟩
  | .hbm, ⟨4, _⟩ => ⟨S2x16, .f32⟩
  | .hbm, ⟨5, _⟩ => ⟨S33x16, .f32⟩
  | .hbm, ⟨6, _⟩ => ⟨S16x1, .f32⟩
  | .hbm, ⟨7, _⟩ => ⟨S16, .f32⟩
  | .hbm, ⟨8, _⟩ => ⟨S64x112, .f32⟩
  | .hbm, ⟨9, _⟩ => ⟨S64, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16x200x256, .i32⟩
  | .hbm, ⟨14, _⟩ => ⟨S16x200x256, .i32⟩
  | .hbm, ⟨15, _⟩ => ⟨S_, .i32⟩
  | .hbm, ⟨16, _⟩ => ⟨S16x200x256, .i32⟩
  | .hbm, ⟨17, _⟩ => ⟨S16x200x256, .i32⟩
  | .hbm, ⟨18, _⟩ => ⟨S16x200x256, .i32⟩
  | .hbm, ⟨19, _⟩ => ⟨S_, .i32⟩
  | .hbm, ⟨20, _⟩ => ⟨S16x200x256, .i32⟩
  | .hbm, ⟨21, _⟩ => ⟨S16x200x256, .i1⟩
  | .hbm, ⟨22, _⟩ => ⟨S_, .i32⟩
  | .hbm, ⟨23, _⟩ => ⟨S16x200x256, .i32⟩
  | .hbm, ⟨24, _⟩ => ⟨S16x200x256, .i32⟩
  | .hbm, ⟨25, _⟩ => ⟨S16x200x256, .i32⟩
  | .hbm, ⟨26, _⟩ => ⟨S16x200x256x1, .i32⟩
  | .hbm, ⟨27, _⟩ => ⟨S1, .i32⟩
  | .hbm, ⟨28, _⟩ => ⟨S_, .i32⟩
  | .hbm, ⟨29, _⟩ => ⟨S16x200x256x1, .i32⟩
  | .hbm, ⟨30, _⟩ => ⟨S16x200x256x1, .i1⟩
  | .hbm, ⟨31, _⟩ => ⟨S1x1x1x1, .i32⟩
  | .hbm, ⟨32, _⟩ => ⟨S16x200x256x1, .i32⟩
  | .hbm, ⟨33, _⟩ => ⟨S16x200x256x1, .i1⟩
  | .hbm, ⟨34, _⟩ => ⟨S16x200x256x1, .i1⟩
  | .hbm, ⟨35, _⟩ => ⟨S_, .i1⟩
  | .hbm, ⟨36, _⟩ => ⟨S16x200x256, .i1⟩
  | .hbm, ⟨37, _⟩ => ⟨S16x200x256x16, .f32⟩
  | .hbm, ⟨38, _⟩ => ⟨S16x200x256x16, .i1⟩
  | .hbm, ⟨39, _⟩ => ⟨S_, .f32⟩
  | .hbm, ⟨40, _⟩ => ⟨S16x200x256x16, .f32⟩
  | .hbm, ⟨41, _⟩ => ⟨S16x200x256x16, .f32⟩
  | .hbm, ⟨42, _⟩ => ⟨S_, .i32⟩
  | .hbm, ⟨43, _⟩ => ⟨S16x200x256, .i32⟩
  | .hbm, ⟨44, _⟩ => ⟨S16x200x256, .i1⟩
  | .hbm, ⟨45, _⟩ => ⟨S_, .i32⟩
  | .hbm, ⟨46, _⟩ => ⟨S16x200x256, .i32⟩
  | .hbm, ⟨47, _⟩ => ⟨S16x200x256, .i32⟩
  | .hbm, ⟨48, _⟩ => ⟨S16x200x256, .i32⟩
  | .hbm, ⟨49, _⟩ => ⟨S16x200x256x1, .i32⟩
  | .hbm, ⟨50, _⟩ => ⟨S1, .i32⟩
  | .hbm, ⟨51, _⟩ => ⟨S_, .i32⟩
  | .hbm, ⟨52, _⟩ => ⟨S16x200x256x1, .i32⟩
  | .hbm, ⟨53, _⟩ => ⟨S16x200x256x1, .i1⟩
  | .hbm, ⟨54, _⟩ => ⟨S1x1x1x1, .i32⟩
  | .hbm, ⟨55, _⟩ => ⟨S16x200x256x1, .i32⟩
  | .hbm, ⟨56, _⟩ => ⟨S16x200x256x1, .i1⟩
  | .hbm, ⟨57, _⟩ => ⟨S16x200x256x1, .i1⟩
  | .hbm, ⟨58, _⟩ => ⟨S_, .i1⟩
  | .hbm, ⟨59, _⟩ => ⟨S16x200x256, .i1⟩
  | .hbm, ⟨60, _⟩ => ⟨S16x200x256x16, .f32⟩
  | .hbm, ⟨61, _⟩ => ⟨S16x200x256x16, .i1⟩
  | .hbm, ⟨62, _⟩ => ⟨S_, .f32⟩
  | .hbm, ⟨63, _⟩ => ⟨S16x200x256x16, .f32⟩
  | .hbm, ⟨64, _⟩ => ⟨S16x200x256x16, .f32⟩
  | .hbm, ⟨65, _⟩ => ⟨S16x200x1x1, .f32⟩
  | .hbm, ⟨66, _⟩ => ⟨S16x200x256x1, .f32⟩
  | .hbm, ⟨67, _⟩ => ⟨S1x16, .f32⟩
  | .hbm, ⟨68, _⟩ => ⟨S16x200x256x16, .f32⟩
  | .hbm, ⟨69, _⟩ => ⟨S1x1x1x16, .f32⟩
  | .hbm, ⟨70, _⟩ => ⟨S16x200x256x16, .f32⟩
  | .hbm, ⟨71, _⟩ => ⟨S16x200x256x16, .f32⟩
  | .hbm, ⟨72, _⟩ => ⟨S16x200x256x112, .f32⟩
  | .hbm, ⟨73, _⟩ => ⟨S112x64, .f32⟩
  | .hbm, ⟨74, _⟩ => ⟨S16x200x256x64, .f32⟩
  | .hbm, ⟨75, _⟩ => ⟨S1x1x1x64, .f32⟩
  | .hbm, ⟨76, _⟩ => ⟨S16x200x256x64, .f32⟩
  | .hbm, ⟨77, _⟩ => ⟨S16x200x256x64, .f32⟩
  | _, _ => ⟨S16x200x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v2 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩

abbrev nD : Nat := 1
abbrev τ : Topo := Topo.v7x

variable {F : FTy → Type} [FloatOps F]
-- ==== Proof.Row.lean ====
/-
  One time step of one block: the 64 × 256 slab the kernel stores at slice `g` of its output block, as a function of the
  slice's number, and its value at an index over the extended reals.
-/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.Proof.Row

open Idealize.ShloMosaic Cert.KernelIdeal Cert.KernelIdeal.Facts₀

/-- Row `g` of a 200 × 256 array is a slice of it. -/
theorem slices_row (g : ℕ) (hg : g < 200) : S200x256.Slices ![g, 0] S1x256 :=
  ⟨rfl, Fin.forall_fin_two.mpr ⟨by show g + 1 ≤ 200; omega, by show 0 + 256 ≤ 256; omega⟩⟩

/-- The slab stored at slice `g`: the base weights times the slice of the base features, plus the table times the columns
    made of the one-hot of the row index, the mask row, the row of ones and the row of the time difference. -/
def step (g : ℕ) (hg : g < 200) (T : FVec Ideal S64x36 .f32) (idx msk : FVec Ideal S200x256 .f32)
    (io : FVec Ideal S33x256 .f32) (one : FVec Ideal S1x256 .f32) (wb : FVec Ideal S64x64 .f32)
    (dt : FVec Ideal S1x1x1 .f32) (x : FVec Ideal S1x1x64x256 .f32) : FVec Ideal S1x1x64x256 .f32 :=
  shapeCast S1x1x64x256
    (addf
      (matmul dot_S64x64_S64x256_S64x256_1_0_0_1_n_n none wb (shapeCast S64x256 x shapeCasts_S1x1x64x256_S64x256)
        (constant S64x256 .f32 0x00000000#32))
      (matmul dot_S64x36_S36x256_S64x256_1_0_0_1_n_n none T
        (concatenate S36x256 0
          [⟨S33x256, sitofp .f32 (extui 32 (cmpf .oeq io (broadcastTo S33x256
              (extractStridedSlice S1x256 ![g, 0] idx (slices_row g hg)) broadcasts_S1x256_S33x256)) natLt_1_32)⟩,
            ⟨S1x256, extractStridedSlice S1x256 ![g, 0] msk (slices_row g hg)⟩, ⟨S1x256, one⟩,
            ⟨S1x256, broadcast S1x256 (extractAt ![0, 0, 0] dt inpos_S1x1x1_p0_0_0)⟩]
          concatenates_S33x256_S1x256_S1x256_S1x256_S36x256_d0)
        (constant S64x256 .f32 0x00000000#32)))
    shapeCasts_S64x256_S1x1x64x256

/-- A sum of 36 terms as the sum of its first 33 and its last three. -/
theorem sum_36 (f : Fin 36 → EReal) :
    ∑ j : Fin 36, f j = (∑ j : Fin 33, f ⟨j, by omega⟩) + (f 33 + (f 34 + f 35)) := by
  rw [Fin.sum_univ_castSucc, Fin.sum_univ_castSucc, Fin.sum_univ_castSucc, add_assoc, add_assoc]
  rfl

/-- The slab at column `n` of feature `d`. -/
theorem step_apply (g : ℕ) (hg : g < 200) (T : FVec Ideal S64x36 .f32) (idx msk : FVec Ideal S200x256 .f32)
    (io : FVec Ideal S33x256 .f32) (one : FVec Ideal S1x256 .f32) (wb : FVec Ideal S64x64 .f32)
    (dt : FVec Ideal S1x1x1 .f32) (x : FVec Ideal S1x1x64x256 .f32) (d : Fin 64) (n : Fin 256) :
    step g hg T idx msk io one wb dt x (ix4 0 0 d n)
      = (∑ k : Fin 64, wb (ix2 d k) * x (ix4 0 0 k n))
        + ((∑ j : Fin 33, T (ix2 d ⟨j, by omega⟩)
              * (FloatOps.sitofp .f32 ((BitVec.ofBool (decide (io (ix2 j n) = idx (ix2 ⟨g, hg⟩ n)))).setWidth 32) : Ideal .f32))
          + (T (ix2 d 33) * msk (ix2 ⟨g, hg⟩ n) + (T (ix2 d 34) * one (ix2 0 n) + T (ix2 d 35) * dt (ix3 0 0 0)))) := by
  unfold step
  pointwise
  rw [sum_36]
  refine congrArg₂ _ rfl (congrArg₂ _ (Finset.sum_congr rfl fun j _ => ?_) ?_)
  · rw [dif_pos j.isLt]
  · rfl

/-- The row of the table that the word `w` names: `w` clipped to 0 … 32. -/
def rowWord (w : BitVec 32) : BitVec 32 := IntOp.minsi 32#32 (IntOp.maxsi 0#32 w)

/-- The clipped word is between 0 and 32. -/
theorem rowWord_toInt (w : BitVec 32) : 0 ≤ (rowWord w).toInt ∧ (rowWord w).toInt ≤ 32 := by
  unfold rowWord IntOp.minsi IntOp.maxsi
  split <;> split <;> simp_all [BitVec.sle, BitVec.slt] <;> omega

/-- The row of the table that the word `w` names, as a row number. -/
def row (w : BitVec 32) : Fin 33 := ⟨(rowWord w).toInt.toNat, by have := rowWord_toInt w; omega⟩

/-- A sum over the rows weighted by the one-hot of `w`'s row is the term of that row. -/
theorem sum_onehot (a : Fin 33 → EReal) (w : BitVec 32) :
    ∑ j : Fin 33, a j * (FloatOps.sitofp .f32 ((BitVec.ofBool (decide
        ((FloatOps.sitofp .f32 (BitVec.ofNat 32 j) : Ideal .f32) = FloatOps.sitofp .f32 (rowWord w)))).setWidth 32) : Ideal .f32)
      = a (row w) := by
  have hrow := rowWord_toInt w
  have key : ∀ j : Fin 33, ((FloatOps.sitofp .f32 (BitVec.ofNat 32 j) : Ideal .f32) = FloatOps.sitofp .f32 (rowWord w)) ↔ j = row w := by
    intro j
    have hj : (BitVec.ofNat 32 (j : ℕ)).toInt = (j : ℤ) := by
      have := j.isLt
      rw [BitVec.toInt_eq_toNat_cond, BitVec.toNat_ofNat]; split <;> omega
    show (((BitVec.ofNat 32 (j : ℕ)).toInt : ℝ) : EReal) = (((rowWord w).toInt : ℝ) : EReal) ↔ _
    rw [hj, EReal.coe_eq_coe_iff, Int.cast_inj, Fin.ext_iff]
    show _ ↔ (j : ℕ) = (rowWord w).toInt.toNat
    omega
  rw [Finset.sum_eq_single (row w)]
  · rw [decide_eq_true ((key _).mpr rfl)]
    show a (row w) * ((((BitVec.ofBool true).setWidth 32).toInt : ℝ) : EReal) = _
    rw [show ((BitVec.ofBool true).setWidth 32).toInt = 1 by decide]
    simp
  · intro j _ hj
    rw [decide_eq_false (fun h => hj ((key _).mp h))]
    show a j * ((((BitVec.ofBool false).setWidth 32).toInt : ℝ) : EReal) = _
    rw [show ((BitVec.ofBool false).setWidth 32).toInt = 0 by decide]
    simp
  · intro h; exact absurd (Finset.mem_univ _) h

end Cert.Proof.Row

end
-- ==== Proof.Table.lean ====
/-
  The table of a block: 64 features by 36 columns, the products of the projection's columns with the rows of the change
  and run embeddings and with the delta weights and biases, read at an index over the extended reals.
-/
module

public import proofs.«01_k».proof.Proof.Row

@[expose] public section

set_option maxRecDepth 16384

noncomputable section

namespace Cert.Proof.Row

open Idealize.ShloMosaic Cert.KernelIdeal Cert.KernelIdeal.Facts₀

/-- A sum of 49 terms cut after the sixteenth and the thirty-second. -/
theorem sum_49 (f : Fin 49 → EReal) :
    ∑ e : Fin 49, f e = (∑ e : Fin 16, f ⟨e, by omega⟩) + ((∑ e : Fin 16, f ⟨16 + e, by omega⟩) + ∑ e : Fin 17, f ⟨32 + e, by omega⟩) := by
  rw [Fin.sum_univ_add (a := 16) (b := 33) f, Fin.sum_univ_add (a := 16) (b := 17)]
  refine congrArg₂ _ rfl (congrArg₂ _ rfl (Finset.sum_congr rfl fun e _ => congrArg f (Fin.ext ?_)))
  show 16 + (16 + (e : ℕ)) = 32 + e
  omega

variable (re : FVec Ideal S33x16 .f32) (c1 c0 c0' : FVec Ideal S1x16 .f32) (dbx dwx : FVec Ideal S1x17 .f32)
  (wall : FVec Ideal S64x49 .f32) (d : Fin 64)

/-- The table's column of run row `r`: the run columns of the projection times the row. -/
theorem table_run (r : Fin 33) : Gen.k0_pay3 re c1 c0 c0' dbx dwx wall (ix2 d ⟨r, by omega⟩)
    = ∑ e : Fin 16, wall (ix2 d ⟨16 + e, by omega⟩) * re (ix2 r e) := by
  unfold Gen.k0_pay3
  pointwise
  rw [sum_49]
  have lt16 : ∀ e : Fin 16, (e : ℕ) < 16 := fun e => e.isLt
  have lt32 : ∀ e : Fin 16, (e : ℕ) < 32 := fun e => by omega
  have lt32' : ∀ e : Fin 16, 16 + (e : ℕ) < 32 := fun e => by omega
  have not16 : ∀ e : Fin 17, ¬ 32 + (e : ℕ) < 16 := fun e => by omega
  have not16' : ∀ e : Fin 17, ¬ 32 + (e : ℕ) - 16 < 16 := fun e => by omega
  have sub32 : ∀ e : Fin 17, 32 + (e : ℕ) - 16 - 16 = e := fun e => by omega
  simp [lt16, lt32, lt32', not16, not16', sub32]

/-- The table's column of the mask: the change columns times the difference of the two change rows. -/
theorem table_mask : Gen.k0_pay3 re c1 c0 c0' dbx dwx wall (ix2 d 33)
    = ∑ e : Fin 16, wall (ix2 d ⟨e, by omega⟩) * (c1 (ix2 0 e) - c0 (ix2 0 e)) := by
  unfold Gen.k0_pay3
  pointwise
  simp

/-- The table's column of ones: the change columns times the change row of zero, and the last seventeen columns times the
    extended biases. -/
theorem table_one : Gen.k0_pay3 re c1 c0 c0' dbx dwx wall (ix2 d 34)
    = (∑ e : Fin 16, wall (ix2 d ⟨e, by omega⟩) * c0' (ix2 0 e))
      + ∑ e : Fin 17, wall (ix2 d ⟨32 + e, by omega⟩) * dbx (ix2 0 e) := by
  unfold Gen.k0_pay3
  pointwise
  rw [sum_49]
  have lt16 : ∀ e : Fin 16, (e : ℕ) < 16 := fun e => e.isLt
  have lt32 : ∀ e : Fin 16, (e : ℕ) < 32 := fun e => by omega
  have lt32' : ∀ e : Fin 16, 16 + (e : ℕ) < 32 := fun e => by omega
  have not16 : ∀ e : Fin 17, ¬ 32 + (e : ℕ) < 16 := fun e => by omega
  have not16' : ∀ e : Fin 17, ¬ 32 + (e : ℕ) - 16 < 16 := fun e => by omega
  have sub32 : ∀ e : Fin 17, 32 + (e : ℕ) - 16 - 16 = e := fun e => by omega
  simp [lt16, lt32, lt32', not16, not16', sub32]

/-- The table's column of the time difference: the last seventeen columns times the extended delta weights. -/
theorem table_dt : Gen.k0_pay3 re c1 c0 c0' dbx dwx wall (ix2 d 35)
    = ∑ e : Fin 17, wall (ix2 d ⟨32 + e, by omega⟩) * dwx (ix2 0 e) := by
  unfold Gen.k0_pay3
  pointwise
  simp

end Cert.Proof.Row

end
-- ==== Proof.Block.lean ====
/-
  What one block's run leaves in the output block: its 200 stored slabs, read at an index, are one function of the ten
  input blocks.
-/
module

public import proofs.«01_k».proof.Proof.Table
public import proofs.«01_k».proof.Proof.Gen.KernelIdeal.Frame

@[expose] public section

set_option maxRecDepth 16384

noncomputable section

namespace Cert.Proof.Row

open Idealize.ShloMosaic Cert.KernelIdeal Cert.KernelIdeal.Facts₀

/-- The mask's value: one where the word is not zero. -/
def maskVal (w : BitVec 32) : EReal := if w = 0#32 then 0 else 1

/-- The mask's value as the body computes it. -/
theorem maskVal_eq (w : BitVec 32) :
    (FloatOps.sitofp .f32 ((IntOp.cmpi .ne w 0#32).setWidth 32) : Ideal .f32) = maskVal w := by
  by_cases h : w = 0#32
  · subst h
    show ((((BitVec.ofBool (0#32 != 0#32)).setWidth 32).toInt : ℝ) : EReal) = maskVal 0#32
    rw [show ((BitVec.ofBool (0#32 != 0#32)).setWidth 32).toInt = 0 by decide]
    simp [maskVal]
  · have hb : (w != 0#32) = true := by simpa using h
    show ((((BitVec.ofBool (w != 0#32)).setWidth 32).toInt : ℝ) : EReal) = maskVal w
    rw [hb, show ((BitVec.ofBool true).setWidth 32).toInt = 1 by decide]
    simp [maskVal, h]

variable (x0 : Vec Ideal S1x1x200 .f32) (x1 : Vec Ideal S1x200x256 .i32) (x2 : Vec Ideal S1x200x256 .i32)
  (x3 : Vec Ideal S1x200x64x256 .f32) (x4 : Vec Ideal S2x16 .f32) (x5 : Vec Ideal S33x16 .f32)
  (x6 : Vec Ideal S1x17 .f32) (x7 : Vec Ideal S1x17 .f32) (x8 : Vec Ideal S64x64 .f32) (x9 : Vec Ideal S64x49 .f32)

/-- The output block at time step `g`, feature `d` and node `n`. -/
def blockAt (g : Fin 200) (d : Fin 64) (n : Fin 256) : EReal :=
  (∑ k : Fin 64, x8 (ix2 d k) * x3 (ix4 0 g k n))
    + ((∑ e : Fin 16, x9 (ix2 d ⟨16 + e, by omega⟩) * x5 (ix2 (row (x2 (ix3 0 g n))) e))
      + ((∑ e : Fin 16, x9 (ix2 d ⟨e, by omega⟩) * (x4 (ix2 1 e) - x4 (ix2 0 e))) * maskVal (x1 (ix3 0 g n))
        + (((∑ e : Fin 16, x9 (ix2 d ⟨e, by omega⟩) * x4 (ix2 0 e))
            + ∑ e : Fin 17, x9 (ix2 d ⟨32 + e, by omega⟩) * x7 (ix2 0 e))
          + (∑ e : Fin 17, x9 (ix2 d ⟨32 + e, by omega⟩) * x6 (ix2 0 e)) * x0 (ix3 0 0 g))))

/-- The slab of time step `g` as the body computes it from the blocks. -/
def slab (g : ℕ) (hg : g < 200) (ib : ∀ a, (![0, 0, g] : Fin 3 → ℕ) a + S1x1x1.size a ≤ S1x1x200.size a)
    (ix : ∀ a, (![0, g, 0, 0] : Fin 4 → ℕ) a + S1x1x64x256.size a ≤ S1x200x64x256.size a) : FVec Ideal S1x1x64x256 .f32 :=
  step g hg (Gen.k0_pay343 x0 x1 x2 x3 x4 x5 x6 x7 x8 x9) (Gen.k0_pay344 x0 x1 x2 x3 x4 x5 x6 x7 x8 x9)
    (Gen.k0_pay346 x0 x1 x2 x3 x4 x5 x6 x7 x8 x9) (Gen.k0_pay347 x0 x1 x2 x3 x4 x5 x6 x7 x8 x9)
    (Gen.k0_pay348 x0 x1 x2 x3 x4 x5 x6 x7 x8 x9) (Gen.k0_pay349 x0 x1 x2 x3 x4 x5 x6 x7 x8 x9)
    (View.ld x0 (Rect.unit (s := S1x1x200) ![0, 0, g] S1x1x1.size ib))
    (View.ld x3 (Rect.unit (s := S1x200x64x256) ![0, g, 0, 0] S1x1x64x256.size ix))

/-- The slab at an index is the block's value there. -/
theorem slab_apply (g : ℕ) (hg : g < 200) (ib ix) (d : Fin 64) (n : Fin 256) :
    slab x0 x1 x2 x3 x4 x5 x6 x7 x8 x9 g hg ib ix (ix4 0 0 d n) = blockAt x0 x1 x2 x3 x4 x5 x6 x7 x8 x9 ⟨g, hg⟩ d n := by
  unfold slab blockAt
  rw [step_apply]
  unfold Gen.k0_pay343
  simp only [table_run, table_mask, table_one, table_dt]
  unfold Gen.k0_pay344 Gen.k0_pay346 Gen.k0_pay345 Gen.k0_pay347 Gen.k0_pay348 Gen.k0_pay349 Gen.k0_pay4 Gen.k0_pay5 Gen.k0_pay6 Gen.k0_pay7 Gen.k0_pay8 Gen.k0_pay9
  pointwise
  exact congrArg₂ _ rfl (congrArg₂ _
    (sum_onehot (fun r => ∑ e : Fin 16, x9 (ix2 d ⟨16 + e, by omega⟩) * x5 (ix2 r e)) _)
    (congrArg₂ _ (congrArg₂ _ rfl (maskVal_eq _)) rfl))

/-- The slab stored at slice `g` has the block's value wherever it lies in the block. -/
theorem slab_at (g : ℕ) (hg : g < 200) (ib ix) (y : S1x200x64x256.Idx) :
    View.RectAt (Val := Elt Ideal) (e := .f32) y (Rect.unit (s := S1x200x64x256) ![0, g, 0, 0] S1x1x64x256.size ix)
      (slab x0 x1 x2 x3 x4 x5 x6 x7 x8 x9 g hg ib ix) (blockAt x0 x1 x2 x3 x4 x5 x6 x7 x8 x9 (y 1) (y 2) (y 3)) := by
  intro x hx
  obtain ⟨d, n, rfl⟩ : ∃ (d : Fin 64) (n : Fin 256), x = ix4 0 0 d n := by
    have h0 : x 0 = (0 : Fin 1) := Subsingleton.elim (α := Fin 1) _ _
    have h1 : x 1 = (0 : Fin 1) := Subsingleton.elim (α := Fin 1) _ _
    exact ⟨x 2, x 3, (eq_ix4 x).trans (congrArg₂ (fun a b => ix4 a b (x 2) (x 3)) h0 h1)⟩
  subst hx
  refine (slab_apply x0 x1 x2 x3 x4 x5 x6 x7 x8 x9 g hg ib ix d n).trans ?_
  congr 1 <;> apply Fin.ext <;> simp [Rect.emb_apply]

/-- After the body the output block holds the block's value at every index. -/
theorem out_apply (y : S1x200x64x256.Idx) :
    Gen.out0_10 x0 x1 x2 x3 x4 x5 x6 x7 x8 x9 y = blockAt x0 x1 x2 x3 x4 x5 x6 x7 x8 x9 (y 1) (y 2) (y 3) := by
  unfold Gen.out0_10
  refine View.canon_eq_of_allAt _ y _ (by apply Gen.cover0_10) ?_
  repeat refine View.allAt_cons _ _ _ (slab_at x0 x1 x2 x3 x4 x5 x6 x7 x8 x9 _ (by decide) (by decide) _ y) ?_
  exact View.allAt_nil y _

end Cert.Proof.Row

end
-- ==== Proof.Arrays.lean ====
/-
  The array the launch leaves: every block of it is the block its point computes from the launch's operand arrays.
-/
module

public import proofs.«01_k».proof.Proof.Block

@[expose] public section

set_option maxRecDepth 16384

noncomputable section

namespace Cert.Proof.Row

open Idealize.ShloMosaic Idealize.ShloMosaic.TcCoe Cert.KernelIdeal Cert.KernelIdeal.Gen

variable (a0 : Vec Ideal S16x1x200 .f32) (a1 : Vec Ideal S16x200x256 .i32) (a2 : Vec Ideal S16x200x256 .i32)
  (a3 : Vec Ideal S16x200x64x256 .f32) (a4 : Vec Ideal S2x16 .f32) (a5 : Vec Ideal S33x16 .f32)
  (a6 : Vec Ideal S1x17 .f32) (a7 : Vec Ideal S1x17 .f32) (a8 : Vec Ideal S64x64 .f32) (a9 : Vec Ideal S64x49 .f32)

/-- The array at batch `b`, time step `g`, feature `d` and node `n`, from the launch's operand arrays. -/
def arrayAt (b : Fin 16) (g : Fin 200) (d : Fin 64) (n : Fin 256) : EReal :=
  blockAt (fun y => a0 (ix3 b 0 (y 2))) (fun y => a1 (ix3 b (y 1) (y 2))) (fun y => a2 (ix3 b (y 1) (y 2)))
    (fun y => a3 (ix4 b (y 1) (y 2) (y 3))) a4 a5 a6 a7 a8 a9 g d n

variable (m : (ℓ : Loc nD τ sig) → Buf (Elt Ideal) ℓ)

/-- The batch a grid point works on. -/
def batch (t : Fin grid0.N) : Fin 16 := ⟨t.val, by have := t.isLt; have := N_0; omega⟩

/-- Where each window's block lies at a grid point: the batched ones at the point's batch, the others at the origin. -/
theorem idx : ∀ t : Fin grid0.N, win0_0.index t = ![(t : ℕ), 0, 0] ∧ win0_1.index t = ![(t : ℕ), 0, 0]
    ∧ win0_2.index t = ![(t : ℕ), 0, 0] ∧ win0_3.index t = ![(t : ℕ), 0, 0, 0] ∧ win0_10.index t = ![(t : ℕ), 0, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] := by decide

variable (c : Dev nD) (t : Fin grid0.N)

/-- The time differences of a point's block. -/
theorem blk_0 : (iblk m c 0 t : Vec Ideal S1x1x200 .f32) = fun y => V m c main_v1 (ix3 (batch t) 0 (y 2)) := by
  funext y; blk_ext [iblk, idx t, batch]
/-- The mask of a point's block. -/
theorem blk_1 : (iblk m c 1 t : Vec Ideal S1x200x256 .i32) = fun y => V m c main_v14 (ix3 (batch t) (y 1) (y 2)) := by
  funext y; blk_ext [iblk, idx t, batch]
/-- The run lengths of a point's block. -/
theorem blk_2 : (iblk m c 2 t : Vec Ideal S1x200x256 .i32) = fun y => V m c main_arg2 (ix3 (batch t) (y 1) (y 2)) := by
  funext y; blk_ext [iblk, idx t, batch]
/-- The base features of a point's block. -/
theorem blk_3 : (iblk m c 3 t : Vec Ideal S1x200x64x256 .f32) = fun y => V m c main_v0 (ix4 (batch t) (y 1) (y 2) (y 3)) := by
  funext y; blk_ext [iblk, idx t, batch]
/-- The whole change table. -/
theorem blk_4 : (iblk m c 4 t : Vec Ideal S2x16 .f32) = V m c main_arg4 := by funext y; blk_ext [iblk, idx t]
/-- The whole run table. -/
theorem blk_5 : (iblk m c 5 t : Vec Ideal S33x16 .f32) = V m c main_arg5 := by funext y; blk_ext [iblk, idx t]
/-- The whole row of delta weights. -/
theorem blk_6 : (iblk m c 6 t : Vec Ideal S1x17 .f32) = V m c main_v10 := by funext y; blk_ext [iblk, idx t]
/-- The whole row of delta biases. -/
theorem blk_7 : (iblk m c 7 t : Vec Ideal S1x17 .f32) = V m c main_v13 := by funext y; blk_ext [iblk, idx t]
/-- The whole matrix of base weights. -/
theorem blk_8 : (iblk m c 8 t : Vec Ideal S64x64 .f32) = V m c main_v2 := by funext y; blk_ext [iblk, idx t]
/-- The whole matrix of the other weights. -/
theorem blk_9 : (iblk m c 9 t : Vec Ideal S64x49 .f32) = V m c main_v7 := by funext y; blk_ext [iblk, idx t]

/-- The output array after the run. -/
theorem arr_eq : (dats m 0 c).arrAt 10 (cfgs 0).N
    = fun y => arrayAt (V m c main_v1) (V m c main_v14) (V m c main_arg2) (V m c main_v0) (V m c main_arg4) (V m c main_arg5)
        (V m c main_v10) (V m c main_v13) (V m c main_v2) (V m c main_v7) (y 0) (y 1) (y 2) (y 3) := by
  refine (dats m 0 c).arrAt_eq_of_covers 10 _ (by decide +kernel) fun t hf y => ?_
  blk_simp
  rw [after0_10]
  refine (out_apply _ _ _ _ _ _ _ _ _ _ y).trans ?_
  rw [blk_0, blk_1, blk_2, blk_3, blk_4, blk_5, blk_6, blk_7, blk_8, blk_9]
  have e0 : (win0_10.blk t).view.emb y 0 = batch t := Fin.ext (by blk_simp [idx t, batch])
  have e1 : (win0_10.blk t).view.emb y 1 = y 1 := Fin.ext (by blk_simp [idx t])
  have e2 : (win0_10.blk t).view.emb y 2 = y 2 := Fin.ext (by blk_simp [idx t])
  have e3 : (win0_10.blk t).view.emb y 3 = y 3 := Fin.ext (by blk_simp [idx t])
  rw [e0, e1, e2, e3]
  rfl

end Cert.Proof.Row

end
-- ==== Proof.Final.lean ====
/-
  The kernel's result at an index, in the argument arrays: what the host prepares before the region, read at an index, and the
  transposition after it.
-/
module

public import proofs.«01_k».proof.Proof.Arrays
public import Idealize.ShloMosaic.Lib.StableHlo.ReadAt

@[expose] public section

set_option maxRecDepth 16384

noncomputable section

namespace Cert.Proof.Final

open Idealize.ShloMosaic Idealize.SL.Sem Cert.KernelIdeal Cert.KernelIdeal.Gen Cert.Proof.Row

variable (m : (ℓ : Loc nD τ sig) → Buf (Elt Ideal) ℓ) (c : Dev nD)

/-! ## The ten arguments as arrays -/

/-- The features. -/
abbrev base : FVec Ideal S16x200x256x64 .f32 := m (c.tc.loc main_arg0)
/-- The change mask. -/
abbrev mask : IVec S16x200x256 1 := m (c.tc.loc main_arg1)
/-- The run lengths. -/
abbrev len : IVec S16x200x256 32 := m (c.tc.loc main_arg2)
/-- The elapsed times. -/
abbrev time : FVec Ideal S16x200 .f32 := m (c.tc.loc main_arg3)
/-- The table of changes. -/
abbrev changes : FVec Ideal S2x16 .f32 := m (c.tc.loc main_arg4)
/-- The table of runs. -/
abbrev runs : FVec Ideal S33x16 .f32 := m (c.tc.loc main_arg5)
/-- The time weights. -/
abbrev timeW : FVec Ideal S16x1 .f32 := m (c.tc.loc main_arg6)
/-- The time biases. -/
abbrev timeB : FVec Ideal S16 .f32 := m (c.tc.loc main_arg7)
/-- The projection. -/
abbrev proj : FVec Ideal S64x112 .f32 := m (c.tc.loc main_arg8)
/-- The projection's bias. -/
abbrev bias : FVec Ideal S64 .f32 := m (c.tc.loc main_arg9)

/-- The features before the region: the last two axes exchanged. -/
theorem base_at (b : Fin 16) (g : Fin 200) (k : Fin 64) (n : Fin 256) :
    (V m c main_v0 : FVec Ideal S16x200x64x256 .f32) (ix4 b g k n) = base m c (ix4 b g n k) := by
  unfold V
  after_reads_at

/-- The elapsed times before the region, with an axis of extent one put in. -/
theorem time_at (b : Fin 16) (g : Fin 200) : (V m c main_v1 : FVec Ideal S16x1x200 .f32) (ix3 b 0 g) = time m c (ix2 b g) := by
  unfold V
  after_reads_at

/-- The mask before the region, as words. -/
theorem mask_at (b : Fin 16) (g : Fin 200) (n : Fin 256) :
    (V m c main_v14 : IVec S16x200x256 32) (ix3 b g n) = BitVec.setWidth 32 (mask m c (ix3 b g n)) := by
  unfold V
  after_reads_at

/-- The projection's columns for the features. -/
theorem projBase_at (d k : Fin 64) :
    (V m c main_v2 : FVec Ideal S64x64 .f32) (ix2 d k) = proj m c (ix2 d ⟨k, by omega⟩) := by
  unfold V
  after_reads_at

/-- The small projection's columns for the change. -/
theorem projChange_at (d : Fin 64) (e : Fin 16) :
    (V m c main_v7 : FVec Ideal S64x49 .f32) (ix2 d ⟨e, by omega⟩) = proj m c (ix2 d ⟨64 + e, by omega⟩) := by
  unfold V
  after_reads_simp
  pointwise
  after_reads_at

/-- The small projection's columns for the run length. -/
theorem projRun_at (d : Fin 64) (e : Fin 16) :
    (V m c main_v7 : FVec Ideal S64x49 .f32) (ix2 d ⟨16 + e, by omega⟩) = proj m c (ix2 d ⟨80 + e, by omega⟩) := by
  unfold V
  after_reads_simp
  pointwise
  after_reads_at

/-- The small projection's columns for the time. -/
theorem projTime_at (d : Fin 64) (e : Fin 16) :
    (V m c main_v7 : FVec Ideal S64x49 .f32) (ix2 d ⟨32 + e, by omega⟩) = proj m c (ix2 d ⟨96 + e, by omega⟩) := by
  unfold V
  after_reads_simp
  pointwise
  after_reads_at
  rw [dif_neg (by omega), dif_neg (by omega), dif_pos (by omega)]
  exact congrArg (fun q => proj m c (ix2 d q)) (Fin.ext (by show 96 + (32 + e.val - 16 - 16) = 96 + e.val; omega))

/-- The small projection's last column: the bias. -/
theorem projBias_at (d : Fin 64) : (V m c main_v7 : FVec Ideal S64x49 .f32) (ix2 d ⟨48, by omega⟩) = bias m c (ix1 d) := by
  unfold V
  after_reads_simp
  pointwise
  after_reads_at

/-- The time weights before the region. -/
theorem timeW_at (e : Fin 16) : (V m c main_v10 : FVec Ideal S1x17 .f32) (ix2 0 ⟨e, by omega⟩) = timeW m c (ix2 e 0) := by
  unfold V
  after_reads_simp
  pointwise

/-- After the time weights a zero, which stands against the bias column. -/
theorem timeW_last : (V m c main_v10 : FVec Ideal S1x17 .f32) (ix2 0 ⟨16, by omega⟩) = (0 : EReal) := by
  unfold V
  after_reads_simp
  pointwise

/-- The time biases before the region. -/
theorem timeB_at (e : Fin 16) : (V m c main_v13 : FVec Ideal S1x17 .f32) (ix2 0 ⟨e, by omega⟩) = timeB m c (ix1 e) := by
  unfold V
  after_reads_simp
  pointwise

/-- After the time biases a one, which stands against the bias column. -/
theorem timeB_last : (V m c main_v13 : FVec Ideal S1x17 .f32) (ix2 0 ⟨16, by omega⟩) = (1 : EReal) := by
  unfold V
  after_reads_simp
  pointwise

/-- The result buffer after the run: the region's array with its last two axes exchanged. -/
theorem tail_apply (b : Fin 16) (g : Fin 200) (n : Fin 256) (d : Fin 64) :
    (Pipeline.afterTail₀ cfgs (dats m) 0 (V0 m) [hostOps1] c main_v16 : FVec Ideal S16x200x256x64 .f32) (ix4 b g n d)
      = arrayAt (V m c main_v1) (V m c main_v14) (V m c main_arg2) (V m c main_v0) (V m c main_arg4) (V m c main_arg5)
          (V m c main_v10) (V m c main_v13) (V m c main_v2) (V m c main_v7) b g d n := by
  have h : Pipeline.afterTail₀ cfgs (dats m) 0 (V0 m) [hostOps1] c main_v16
      = transpose S16x200x256x64 [0, 1, 3, 2] ((dats m 0 c).arrAt 10 (cfgs 0).N) transposes_S16x200x64x256_S16x200x256x64_0_1_3_2 := by
    show StableHlo.after hostOps1 _ _ = _
    after_results
    exact congrArg (fun z => transpose S16x200x256x64 [0, 1, 3, 2] z transposes_S16x200x64x256_S16x200x256x64_0_1_3_2)
      (Pipeline.withArrays_arr (cfgs 0).spec (by decide) c (V0 m c) (fun w => (dats m 0 c).arrAt w (cfgs 0).N) 10)
  rw [h, arr_eq]
  pointwise

/-- A sum over 17 terms: sixteen and the last. -/
theorem sum_17 {M : Type} [AddCommMonoid M] (f : Fin 17 → M) :
    ∑ e, f e = (∑ e : Fin 16, f ⟨e, by omega⟩) + f ⟨16, by omega⟩ := Fin.sum_univ_castSucc f

/-- The kernel's result at an index, in the argument arrays. -/
def kernelAt (b : Fin 16) (g : Fin 200) (n : Fin 256) (d : Fin 64) : EReal :=
  (∑ k : Fin 64, proj m c (ix2 d ⟨k, by omega⟩) * base m c (ix4 b g n k))
    + ((∑ e : Fin 16, proj m c (ix2 d ⟨80 + e, by omega⟩) * runs m c (ix2 (row (len m c (ix3 b g n))) e))
      + ((∑ e : Fin 16, proj m c (ix2 d ⟨64 + e, by omega⟩) * (changes m c (ix2 1 e) - changes m c (ix2 0 e)))
          * maskVal (BitVec.setWidth 32 (mask m c (ix3 b g n)))
        + (((∑ e : Fin 16, proj m c (ix2 d ⟨64 + e, by omega⟩) * changes m c (ix2 0 e))
            + ((∑ e : Fin 16, proj m c (ix2 d ⟨96 + e, by omega⟩) * timeB m c (ix1 e)) + bias m c (ix1 d) * 1))
          + ((∑ e : Fin 16, proj m c (ix2 d ⟨96 + e, by omega⟩) * timeW m c (ix2 e 0)) + bias m c (ix1 d) * 0)
            * time m c (ix2 b g))))

/-- The result buffer after the run, at an index. -/
theorem result_apply (b : Fin 16) (g : Fin 200) (n : Fin 256) (d : Fin 64) :
    (Pipeline.afterTail₀ cfgs (dats m) 0 (V0 m) [hostOps1] c main_v16 : FVec Ideal S16x200x256x64 .f32) (ix4 b g n d)
      = kernelAt m c b g n d := by
  rw [tail_apply]
  unfold arrayAt blockAt kernelAt
  rw [sum_17, sum_17]
  refine congrArg₂ (· + ·) (Finset.sum_congr rfl fun k _ => congrArg₂ (· * ·) (projBase_at m c d k) (base_at m c b g k n))
    (congrArg₂ (· + ·) (Finset.sum_congr rfl fun e _ => congrArg₂ (· * ·) (projRun_at m c d e) ?_)
      (congrArg₂ (· + ·) (congrArg₂ (· * ·) (Finset.sum_congr rfl fun e _ => congrArg₂ (· * ·) (projChange_at m c d e) ?_)
          (congrArg maskVal (mask_at m c b g n)))
        (congrArg₂ (· + ·)
          (congrArg₂ (· + ·) (Finset.sum_congr rfl fun e _ => congrArg₂ (· * ·) (projChange_at m c d e) ?_)
            (congrArg₂ (· + ·) (Finset.sum_congr rfl fun e _ => congrArg₂ (· * ·) (projTime_at m c d e) (timeB_at m c e))
              (congrArg₂ (· * ·) (projBias_at m c d) (timeB_last m c))))
          (congrArg₂ (· * ·)
            (congrArg₂ (· + ·) (Finset.sum_congr rfl fun e _ => congrArg₂ (· * ·) (projTime_at m c d e) (timeW_at m c e))
              (congrArg₂ (· * ·) (projBias_at m c d) (timeW_last m c)))
            (time_at m c b g)))))
  · rw [V_main_arg2, V_main_arg5]
    rfl
  · rw [V_main_arg4]
  · rw [V_main_arg4]

end Cert.Proof.Final

end
-- ==== Proof.Gather.lean ====
/-
  Looking up rows of a table: the gather of a two-axis table at a three-axis array of row numbers, and the wrapping and the
  bounds of a row number.
-/
module

public import proofs.«01_k».proof.Proof.Row
public import Idealize.ShloMosaic.Lib.Pointwise

@[expose] public section

noncomputable section

namespace Cert.Proof.Gather

open Idealize.ShloMosaic

variable {α : Type} {N A B C E w : Nat}

/-- The dimension numbers of a lookup of whole rows: an `N × E` table at an `A × B × C` array of row numbers. -/
abbrev lookup (wf : GatherDims.WF ⟨2, ![N, E]⟩ ⟨4, ![A, B, C, 1]⟩ ⟨4, ![A, B, C, E]⟩ [3] [0] [] [0] [] 3 ![1, E]) :
    GatherDims ⟨2, ![N, E]⟩ ⟨4, ![A, B, C, 1]⟩ ⟨4, ![A, B, C, E]⟩ where
  offsetDims := [3]
  collapsedSliceDims := [0]
  operandBatchingDims := []
  startIndicesBatchingDims := []
  startIndexMap := [0]
  indexVectorDim := 3
  sliceSizes := ![1, E]
  wf := wf

/-- A lookup at an index is the table at the row whose number stands there, brought into the table. -/
theorem lookup_apply (hN : 0 < N)
    (wf : GatherDims.WF ⟨2, ![N, E]⟩ ⟨4, ![A, B, C, 1]⟩ ⟨4, ![A, B, C, E]⟩ [3] [0] [] [0] [] 3 ![1, E])
    (x : (⟨2, ![N, E]⟩ : Shape).Idx → α) (idx : IVec ⟨4, ![A, B, C, 1]⟩ w) (a : Fin A) (b : Fin B) (c : Fin C) (e : Fin E) :
    Host.gather (lookup wf) x idx (ix4 a b c e) = x (ix2 ⟨min (idx (ix4 a b c 0)).toInt.toNat (N - 1), by omega⟩ e) := by
  have hs : ∀ k, (lookup wf).siIdx (ix4 a b c e) k = ix4 a b c 0 := fun k => by
    funext q
    refine Fin.ext ?_
    have hk : k.val = 0 := Nat.lt_one_iff.1 k.isLt
    fin_cases q
    · rfl
    · rfl
    · rfl
    · exact hk
  refine congrArg x (funext fun q => Fin.ext ?_)
  show (lookup wf).start _ idx q + (lookup wf).batchCoord _ q + (lookup wf).offCoord _ q = _
  rw [(lookup wf).batchCoord_eq_zero _ _ List.not_mem_nil]
  fin_cases q
  · show (lookup wf).start _ idx 0 + 0 + (lookup wf).offCoord _ 0 = _
    rw [(lookup wf).offCoord_eq_zero _ _ fun h => (((lookup wf).mem_sKept _).1 h).1 (List.mem_singleton.2 rfl)]
    show (lookup wf).start _ idx 0 = _
    unfold GatherDims.start
    rw [dif_pos (show (0 : Fin 2) ∈ (lookup wf).startIndexMap from List.mem_singleton.2 rfl), hs]
    rfl
  · show (lookup wf).start _ idx 1 + 0 + (lookup wf).offCoord _ 1 = _
    unfold GatherDims.start
    rw [dif_neg (show (1 : Fin 2) ∉ (lookup wf).startIndexMap from fun h => absurd (List.mem_singleton.1 h) (show ¬ ((1 : Fin 2) = 0) by decide))]
    exact Nat.zero_add _

/-- The row number that a lookup wraps around: a negative one counts from the table's end. -/
def wrap (N v : BitVec 32) : BitVec 32 := Scalar.select (IntOp.cmpi .slt v 0#32) (IntOp.addi v N) v

/-- A row number that is not negative is not wrapped. -/
theorem wrap_eq (N v : BitVec 32) (h : 0 ≤ v.toInt) : wrap N v = v := by
  have : IntOp.cmpi .slt v 0#32 ≠ 1#1 := by
    have h' : ¬ v.toInt < 0 := by omega
    simp [IntOp.cmpi, BitVec.slt, h']
  simp [wrap, Scalar.select, this]

/-- Whether a row number lies in a table whose last row is `L`. -/
def inside (L v : BitVec 32) : BitVec 1 := IntOp.andi (IntOp.cmpi .sge v 0#32) (IntOp.cmpi .sle v L)

/-- A row number between 0 and the last row lies in the table. -/
theorem inside_eq (L v : BitVec 32) (h : 0 ≤ v.toInt) (h' : v.toInt ≤ L.toInt) : inside L v = 1#1 := by
  simp [inside, IntOp.cmpi, IntOp.andi, BitVec.sle, h, h']

end Cert.Proof.Gather

end
-- ==== Proof.Reference.lean ====
/-
  The reference's result at an index: the product of the projection with the concatenated features, plus the bias.
-/
module

public import proofs.«01_k».proof.Proof.Gather
public import proofs.«01_k».proof.Proof.Gen.ReferenceIdeal.Read

@[expose] public section

set_option maxRecDepth 16384

noncomputable section

namespace Cert.Proof.Ref

open Idealize.ShloMosaic Cert.ReferenceIdeal Cert.ReferenceIdeal.Read

variable (x0 : FVec Ideal S16x200x256x64 .f32) (x1 : IVec S16x200x256 1) (x2 : IVec S16x200x256 32) (x3 : FVec Ideal S16x200 .f32)
  (x4 : FVec Ideal S2x16 .f32) (x5 : FVec Ideal S33x16 .f32) (x6 : FVec Ideal S16x1 .f32) (x7 : FVec Ideal S16 .f32)
  (x8 : FVec Ideal S64x112 .f32) (x9 : FVec Ideal S64 .f32)
  (b : Fin 16) (g : Fin 200) (n : Fin 256)

/-- The row of the table of changes that a mask bit names. -/
def bitRow (w : BitVec 1) : Fin 2 := ⟨w.toNat, w.isLt⟩

/-- A mask bit read as a row number is 0 or 1. -/
theorem bit_toInt (w : BitVec 1) : (BitVec.setWidth 32 w).toInt = w.toNat := by
  have := w.isLt
  rw [BitVec.toInt_eq_toNat_cond, BitVec.toNat_setWidth]
  split <;> omega

/-- The conjunction of one bit, which is set, is set. -/
theorem fold_one (u : BitVec 1) (h : u = 1#1) : Finset.fold IntOp.andi 1#1 (fun _ : Fin 1 => u) Finset.univ = 1#1 := by
  subst h
  decide

/-- The change feature: the row of the table of changes that the mask names. -/
theorem change_apply (e : Fin 16) :
    val_main_v2 (F := Ideal) x1 x4 (ix4 b g n e) = x4 (ix2 (bitRow (x1 (ix3 b g n))) e) := by
  have hw := bit_toInt (x1 (ix3 b g n))
  have hlt := (x1 (ix3 b g n)).isLt
  have hidx : val_main_call1_v5 (F := Ideal) x1 (ix4 b g n 0) = BitVec.setWidth 32 (x1 (ix3 b g n)) := by
    refine Eq.trans ?_ (Gather.wrap_eq 2#32 _ (by omega))
    simp only [val_main_call1_v5, val_main_call1_v4, val_main_call1_v3, val_main_call1_v2, val_main_call1_v1,
      val_main_call1_v0, val_main_call1_c_0, val_main_call1_c, val_main_v1, Gather.wrap]
    pointwise
  have hin : val_main_call1_v14 (F := Ideal) x1 (ix4 b g n e) = 1#1 := by
    refine Eq.trans ?_ (fold_one (Gather.inside 1#32 (val_main_call1_v5 (F := Ideal) x1 (ix4 b g n 0)))
      (Gather.inside_eq _ _ (by rw [hidx]; omega) (by rw [hidx, hw]; change (_ : Int) ≤ 1; omega)))
    simp only [val_main_call1_v14, val_main_call1_v12, val_main_call1_v11, val_main_call1_c_3, val_main_call1_v10,
      val_main_call1_v9, val_main_call1_v8, val_main_call1_v7, val_main_call1_v6, val_main_call1_c_2, val_main_call1_c_1,
      Gather.inside]
    pointwise
    exact congrArg (fun f => Finset.fold IntOp.andi 1#1 f Finset.univ) (funext fun q : Fin 1 => by rw [Subsingleton.elim q 0])
  have hga : val_main_call1_v13 (F := Ideal) x1 x4 (ix4 b g n e) = x4 (ix2 (bitRow (x1 (ix3 b g n))) e) := by
    refine (Gather.lookup_apply (by decide) _ x4 _ b g n e).trans (congrArg (fun r => x4 (ix2 r e)) (Fin.ext ?_))
    show min (val_main_call1_v5 (F := Ideal) x1 (ix4 b g n 0)).toInt.toNat (2 - 1) = (x1 (ix3 b g n)).toNat
    rw [hidx, hw]
    omega
  simp only [val_main_v2]
  pointwise
  rw [hin, hga]
  rfl

/-- The run feature: the row of the table of runs that the run length names, a length beyond the table its last row. -/
theorem run_apply (e : Fin 16) :
    val_main_v3 (F := Ideal) x2 x5 (ix4 b g n e) = x5 (ix2 (Row.row (x2 (ix3 b g n))) e) := by
  have hw := Row.rowWord_toInt (x2 (ix3 b g n))
  have hidx : val_main_call2_v5 (F := Ideal) x2 (ix4 b g n 0) = Row.rowWord (x2 (ix3 b g n)) := by
    refine Eq.trans ?_ (Gather.wrap_eq 33#32 _ hw.1)
    simp only [val_main_call2_v5, val_main_call2_v4, val_main_call2_v3, val_main_call2_v2, val_main_call2_v1,
      val_main_call2_v0, val_main_call2_c_0, val_main_call2_c, val_main_v0, val_main_call0_v4, val_main_call0_v3, val_main_call0_v2, val_main_call0_v1,
      val_main_call0_v0, val_main_c, val_main_c_0, Gather.wrap, Row.rowWord, id_eq]
    pointwise
  have hin : val_main_call2_v14 (F := Ideal) x2 (ix4 b g n e) = 1#1 := by
    refine Eq.trans ?_ (fold_one (Gather.inside 32#32 (val_main_call2_v5 (F := Ideal) x2 (ix4 b g n 0)))
      (Gather.inside_eq _ _ (by rw [hidx]; exact hw.1) (by rw [hidx]; exact hw.2)))
    simp only [val_main_call2_v14, val_main_call2_v12, val_main_call2_v11, val_main_call2_c_3, val_main_call2_v10,
      val_main_call2_v9, val_main_call2_v8, val_main_call2_v7, val_main_call2_v6, val_main_call2_c_2, val_main_call2_c_1,
      Gather.inside]
    pointwise
    exact congrArg (fun f => Finset.fold IntOp.andi 1#1 f Finset.univ) (funext fun q : Fin 1 => by rw [Subsingleton.elim q 0])
  have hga : val_main_call2_v13 (F := Ideal) x2 x5 (ix4 b g n e) = x5 (ix2 (Row.row (x2 (ix3 b g n))) e) := by
    refine (Gather.lookup_apply (by decide) _ x5 _ b g n e).trans (congrArg (fun r => x5 (ix2 r e)) (Fin.ext ?_))
    show min (val_main_call2_v5 (F := Ideal) x2 (ix4 b g n 0)).toInt.toNat (33 - 1) = (Row.rowWord (x2 (ix3 b g n))).toInt.toNat
    rw [hidx]
    omega
  simp only [val_main_v3]
  pointwise
  rw [hin, hga]
  rfl

/-- The time feature: the elapsed time by the weights, plus their bias. -/
theorem delta_apply (e : Fin 16) :
    val_main_v10 (F := Ideal) x3 x6 x7 (ix4 b g n e) = x3 (ix2 b g) * x6 (ix2 e 0) + x7 (ix1 e) := by
  simp only [val_main_v10, val_main_v9, val_main_v8, val_main_v7, val_main_v6, val_main_v5, val_main_v4]
  pointwise
  rw [Fin.sum_univ_one]

/-- A sum over 112 terms, split where the four features meet. -/
theorem sum_112 {M : Type} [AddCommMonoid M] (f : Fin 112 → M) :
    ∑ k, f k = (∑ k : Fin 64, f ⟨k, by omega⟩) + ((∑ e : Fin 16, f ⟨64 + e, by omega⟩)
      + ((∑ e : Fin 16, f ⟨80 + e, by omega⟩) + ∑ e : Fin 16, f ⟨96 + e, by omega⟩)) := by
  have h1 := Fin.sum_univ_add (a := 64) (b := 48) f
  have h2 := Fin.sum_univ_add (a := 16) (b := 32) fun i : Fin 48 => f (Fin.natAdd 64 i)
  have h3 := Fin.sum_univ_add (a := 16) (b := 16) fun i : Fin 32 => f (Fin.natAdd 64 (Fin.natAdd 16 i))
  rw [h2, h3] at h1
  refine h1.trans (congrArg₂ (· + ·) rfl (congrArg₂ (· + ·) rfl (congrArg₂ (· + ·) ?_ ?_)))
  · exact Finset.sum_congr rfl fun e _ => congrArg f (Fin.ext (by simp; omega))
  · exact Finset.sum_congr rfl fun e _ => congrArg f (Fin.ext (by simp; omega))

/-- The reference's result at an index: each feature by its own columns of the projection, plus the bias. -/
theorem out_apply (d : Fin 64) : val_main_v16 (F := Ideal) x0 x1 x2 x3 x4 x5 x6 x7 x8 x9 (ix4 b g n d)
    = ((∑ k : Fin 64, x0 (ix4 b g n k) * x8 (ix2 d ⟨k, by omega⟩))
        + ((∑ e : Fin 16, x4 (ix2 (bitRow (x1 (ix3 b g n))) e) * x8 (ix2 d ⟨64 + e, by omega⟩))
          + ((∑ e : Fin 16, x5 (ix2 (Row.row (x2 (ix3 b g n))) e) * x8 (ix2 d ⟨80 + e, by omega⟩))
            + ∑ e : Fin 16, (x3 (ix2 b g) * x6 (ix2 e 0) + x7 (ix1 e)) * x8 (ix2 d ⟨96 + e, by omega⟩))))
      + x9 (ix1 d) := by
  simp only [val_main_v16, val_main_v15, val_main_v14, val_main_v13, val_main_v12, val_main_v11]
  pointwise
  rw [sum_112]
  refine congrArg₂ (· + ·) (congrArg₂ (· + ·) ?_ (congrArg₂ (· + ·) ?_ (congrArg₂ (· + ·) ?_ ?_))) rfl
  · refine Finset.sum_congr rfl fun k _ => ?_
    rw [dif_pos k.isLt]
  · refine Finset.sum_congr rfl fun k _ => ?_
    rw [dif_neg (by simp), dif_pos (by simp), ← change_apply x1 x4 b g n k]
    refine congrArg (fun q => val_main_v2 (F := Ideal) x1 x4 (ix4 b g n q) * _) (Fin.ext ?_)
    simp
  · refine Finset.sum_congr rfl fun k _ => ?_
    rw [dif_neg (by simp; omega), dif_neg (by simp; omega), dif_pos (by simp; omega), ← run_apply x2 x5 b g n k]
    refine congrArg (fun q => val_main_v3 (F := Ideal) x2 x5 (ix4 b g n q) * _) (Fin.ext ?_)
    simp
    omega
  · refine Finset.sum_congr rfl fun k _ => ?_
    rw [dif_neg (by simp; omega), dif_neg (by simp; omega), dif_neg (by simp; omega), ← delta_apply x3 x6 x7 b g n k]
    refine congrArg (fun q => val_main_v10 (F := Ideal) x3 x6 x7 (ix4 b g n q) * _) (Fin.ext ?_)
    simp
    omega

end Cert.Proof.Ref

end
-- ==== Proof.Equation.lean ====
/-
  The equation between the two ways of adding up: extended reals, some of them finite.
-/
module

public import Mathlib.Data.EReal.Inv
public import Mathlib.Algebra.BigOperators.Ring.Finset
public import Mathlib.Tactic.Abel
public import Mathlib.Tactic.Ring

@[expose] public section

noncomputable section

namespace Cert.Proof.Equation

/-- A real number distributes over the sum of a real number and any extended real. -/
theorem mul_add_real (w a : ℝ) (x : EReal) : (w : EReal) * (a + x) = w * a + w * x := by
  induction x with
  | coe x => exact_mod_cast mul_add w a x
  | top =>
    rcases lt_trichotomy w 0 with h | h | h
    · rw [EReal.coe_add_top, EReal.coe_mul_top_of_neg h, ← EReal.coe_mul, EReal.add_bot]
    · simp [h]
    · rw [EReal.coe_add_top, EReal.coe_mul_top_of_pos h, ← EReal.coe_mul, EReal.coe_add_top]
  | bot =>
    rcases lt_trichotomy w 0 with h | h | h
    · rw [EReal.add_bot, EReal.coe_mul_bot_of_neg h, ← EReal.coe_mul, EReal.coe_add_top]
    · simp [h]
    · rw [EReal.add_bot, EReal.coe_mul_bot_of_pos h, ← EReal.coe_mul, EReal.add_bot]

/-- A difference from a real number, weighted, and that number weighted: together the first number weighted. -/
theorem sub_add_real (w q : ℝ) (p : EReal) : (w : EReal) * (p - q) + w * q = w * p := by
  have h : p - (q : EReal) = ((-q : ℝ) : EReal) + p := by rw [sub_eq_add_neg, add_comm, EReal.coe_neg]
  have h0 : (w : EReal) * ((-q : ℝ) : EReal) + w * q = 0 := by
    rw [← EReal.coe_mul, ← EReal.coe_mul, ← EReal.coe_add]
    simp
  rw [h, mul_add_real, add_right_comm, h0, zero_add]

variable {n : Nat}

/-- The change feature: the weighted difference of the two rows where the mask is set, added to the weighted first row. -/
theorem change_eq (w q : Fin n → ℝ) (p : Fin n → EReal) :
    (∑ e, (w e : EReal) * (p e - q e)) + ∑ e, (w e : EReal) * q e = ∑ e, p e * w e := by
  rw [← Finset.sum_add_distrib]
  exact Finset.sum_congr rfl fun e _ => by rw [sub_add_real, mul_comm]

/-- A sum of real numbers is a real number. -/
theorem coe_sum (f : Fin n → ℝ) : ∑ e, (f e : EReal) = ((∑ e, f e : ℝ) : EReal) :=
  (map_sum (⟨⟨Real.toEReal, EReal.coe_zero⟩, EReal.coe_add⟩ : ℝ →+ EReal) f Finset.univ).symm

/-- The time feature: the projected weights times the elapsed time, added to the projected biases. -/
theorem time_eq (w a : Fin n → ℝ) (t : ℝ) (x : Fin n → EReal) :
    (∑ e, (w e : EReal) * a e) * t + ∑ e, (w e : EReal) * x e = ∑ e, ((t : EReal) * a e + x e) * w e := by
  have h : (∑ e, (w e : EReal) * a e) * t = ∑ e, (w e : EReal) * ((t * a e : ℝ) : EReal) := by
    simp only [← EReal.coe_mul]
    rw [coe_sum, coe_sum, ← EReal.coe_mul, Finset.sum_mul]
    exact congrArg Real.toEReal (Finset.sum_congr rfl fun e _ => by ring)
  rw [h, ← Finset.sum_add_distrib]
  refine Finset.sum_congr rfl fun e _ => ?_
  rw [← mul_add_real, mul_comm, EReal.coe_mul]

/-- The terms of the two sums in their two orders. -/
theorem order_eq (A R M C T S c t : EReal) :
    A + (R + (M + ((C + (T + c * 1)) + (S + c * 0) * t))) = (A + ((M + C) + (R + (S * t + T)))) + c := by
  rw [mul_one, mul_zero, add_zero]
  abel

end Cert.Proof.Equation

end
-- ==== Proof.Finite.lean ====
/-
  The precondition read: the entries of the tables that it names are real numbers.
-/
module

public import proofs.«01_k».proof.Defs
public import Idealize.ShloMosaic.Lib.Pointwise

@[expose] public section

noncomputable section

namespace Cert.Proof.Finite

open Idealize.ShloMosaic Cert.Pre_tables_finite

/-- The shapes that the precondition's operations take. -/
theorem shapes : Cert.Pre_tables_finite.Facts := by
  constructor <;> decide

/-- An extended real whose magnitude compares below infinity is a real number. -/
theorem real_of_lt (x : EReal) (h : BitVec.ofBool (decide (max x (-x) < Ideal.ofBits FTy.f32 0x7F800000#32)) = 1#1) : ∃ r : ℝ, x = r := by
  have htop : Ideal.ofBits FTy.f32 0x7F800000#32 = (⊤ : EReal) := by simp [Ideal.ofBits, Ideal.ieee]
  rw [htop] at h
  induction x with
  | coe r => exact ⟨r, rfl⟩
  | top => simp at h
  | bot => simp at h

variable (x0 : FVec Ideal S16x200x256x64 .f32) (x1 : IVec S16x200x256 1) (x2 : IVec S16x200x256 32) (x3 : FVec Ideal S16x200 .f32)
  (x4 : FVec Ideal S2x16 .f32) (x5 : FVec Ideal S33x16 .f32) (x6 : FVec Ideal S16x1 .f32) (x7 : FVec Ideal S16 .f32)
  (x8 : FVec Ideal S64x112 .f32) (x9 : FVec Ideal S64 .f32)

/-- The elapsed times are real numbers. -/
theorem time_real (h : (@fn shapes Ideal _ x0 x1 x2 x3 x4 x5 x6 x7 x8 x9).1 = fun _ => 1#1) (b : Fin 16) (g : Fin 200) :
    ∃ r : ℝ, x3 (ix2 b g) = r := by
  have h' := congrFun h (ix2 b g)
  simp only [fn] at h'
  pointwise at h'
  exact real_of_lt _ h'

/-- The first row of the table of changes is of real numbers. -/
theorem change_real (h : (@fn shapes Ideal _ x0 x1 x2 x3 x4 x5 x6 x7 x8 x9).2.1 = fun _ => 1#1) (e : Fin 16) :
    ∃ r : ℝ, x4 (ix2 0 e) = r := by
  have h' := congrFun h (ix2 0 e)
  simp only [fn] at h'
  pointwise at h'
  exact real_of_lt _ h'

/-- The time weights are real numbers. -/
theorem timeW_real (h : (@fn shapes Ideal _ x0 x1 x2 x3 x4 x5 x6 x7 x8 x9).2.2.1 = fun _ => 1#1) (e : Fin 16) :
    ∃ r : ℝ, x6 (ix2 e 0) = r := by
  have h' := congrFun h (ix2 e 0)
  simp only [fn] at h'
  pointwise at h'
  exact real_of_lt _ h'

/-- The projection's columns for the change are of real numbers. -/
theorem projChange_real (h : (@fn shapes Ideal _ x0 x1 x2 x3 x4 x5 x6 x7 x8 x9).2.2.2.1 = fun _ => 1#1) (d : Fin 64) (e : Fin 16) :
    ∃ r : ℝ, x8 (ix2 d ⟨64 + e, by omega⟩) = r := by
  have h' := congrFun h (ix2 d e)
  simp only [fn] at h'
  pointwise at h'
  exact real_of_lt _ h'

/-- The projection's columns for the time are of real numbers. -/
theorem projTime_real (h : (@fn shapes Ideal _ x0 x1 x2 x3 x4 x5 x6 x7 x8 x9).2.2.2.2 = fun _ => 1#1) (d : Fin 64) (e : Fin 16) :
    ∃ r : ℝ, x8 (ix2 d ⟨96 + e, by omega⟩) = r := by
  have h' := congrFun h (ix2 d e)
  simp only [fn] at h'
  pointwise at h'
  exact real_of_lt _ h'

end Cert.Proof.Finite

end
-- ==== Proof.Value.lean ====
/-
  The kernel's result and the reference's are the same array, where the tables that the precondition names are finite.
-/
module

public import proofs.«01_k».proof.Proof.Final
public import proofs.«01_k».proof.Proof.Reference
public import proofs.«01_k».proof.Proof.Equation
public import proofs.«01_k».proof.Proof.Finite

@[expose] public section

set_option maxRecDepth 16384

noncomputable section

namespace Cert.Proof.Value

open Idealize.ShloMosaic Idealize.SL.Sem Cert.KernelIdeal Cert.KernelIdeal.Gen Cert.Proof.Row Cert.Proof.Final Cert.Proof.Ref

variable (m : (ℓ : Loc nD τ sig) → Buf (Elt Ideal) ℓ) (c : Dev nD)

/-- The change feature with its mask: the weighted difference where the mask is set, added to the weighted first row, is the
    row that the mask names, weighted. -/
theorem change_bit {n : Nat} (w q : Fin n → ℝ) (t : Fin 2 → Fin n → EReal) (h : ∀ e, t 0 e = q e) (u : BitVec 1) :
    (∑ e, (w e : EReal) * (t 1 e - t 0 e)) * maskVal (BitVec.setWidth 32 u) + ∑ e, (w e : EReal) * t 0 e
      = ∑ e, t (bitRow u) e * w e := by
  have hu : u = 0#1 ∨ u = 1#1 := by
    rcases Nat.lt_succ_iff_lt_or_eq.1 u.isLt with hlt | heq
    · exact Or.inl (BitVec.eq_of_toNat_eq (by simpa using hlt))
    · exact Or.inr (BitVec.eq_of_toNat_eq (by simpa using heq))
  rcases hu with rfl | rfl
  · rw [show maskVal (BitVec.setWidth 32 0#1) = 0 from if_pos (by decide), mul_zero, zero_add, show bitRow 0#1 = 0 from rfl]
    exact Finset.sum_congr rfl fun e _ => mul_comm _ _
  · rw [show maskVal (BitVec.setWidth 32 1#1) = 1 from if_neg (by decide), mul_one, show bitRow 1#1 = 1 from rfl]
    simp only [h]
    exact Equation.change_eq w q (t 1)

/-- The kernel's result at an index is the reference's, where the precondition holds. -/
theorem value_apply
    (ht : ∀ b g, ∃ r : ℝ, time m c (ix2 b g) = r) (hc : ∀ e, ∃ r : ℝ, changes m c (ix2 0 e) = r)
    (hw : ∀ e, ∃ r : ℝ, timeW m c (ix2 e 0) = r)
    (hpc : ∀ (d : Fin 64) (e : Fin 16), ∃ r : ℝ, proj m c (ix2 d ⟨64 + e, by omega⟩) = r)
    (hpt : ∀ (d : Fin 64) (e : Fin 16), ∃ r : ℝ, proj m c (ix2 d ⟨96 + e, by omega⟩) = r)
    (b : Fin 16) (g : Fin 200) (n : Fin 256) (d : Fin 64) :
    kernelAt m c b g n d = Cert.ReferenceIdeal.Read.val_main_v16 (F := Ideal) (base m c) (mask m c) (len m c) (time m c) (changes m c)
      (runs m c) (timeW m c) (timeB m c) (proj m c) (bias m c) (ix4 b g n d) := by
  obtain ⟨t, ht⟩ := ht b g
  choose q hq using hc
  choose a ha using hw
  choose p hp using hpc d
  choose s hs using hpt d
  rw [Ref.out_apply]
  unfold kernelAt
  refine (Equation.order_eq _ _ _ _ _ _ _ _).trans ?_
  refine congrArg₂ (· + ·) (congrArg₂ (· + ·) (Finset.sum_congr rfl fun k _ => mul_comm _ _) (congrArg₂ (· + ·) ?_
    (congrArg₂ (· + ·) (Finset.sum_congr rfl fun e _ => mul_comm _ _) ?_))) rfl
  · simp only [hp]
    exact change_bit p q (fun i e => changes m c (ix2 i e)) hq _
  · simp only [hs, ha, ht]
    exact Equation.time_eq s a t fun e => timeB m c (ix1 e)

/-- The kernel's result buffer after the run is the reference's array, where the precondition holds. -/
theorem value_eq (hpre : @Cert.Pre_KernelIdeal_tables_finite Finite.shapes m) :
    Pipeline.afterTail₀ cfgs (dats m) 0 (V0 m) [hostOps1] c main_v16
      = Cert.ReferenceIdeal.Read.val_main_v16 (F := Ideal) (base m c) (mask m c) (len m c) (time m c) (changes m c)
          (runs m c) (timeW m c) (timeB m c) (proj m c) (bias m c) := by
  obtain ⟨h1, h2, h3, h4, h5⟩ := hpre c
  funext y
  rw [eq_ix4 y]
  refine (result_apply m c (y 0) (y 1) (y 2) (y 3)).trans (value_apply m c ?_ ?_ ?_ ?_ ?_ _ _ _ _)
  · exact fun b g => Finite.time_real _ _ _ _ _ _ _ _ _ _ h1 b g
  · exact fun e => Finite.change_real _ _ _ _ _ _ _ _ _ _ h2 e
  · exact fun e => Finite.timeW_real _ _ _ _ _ _ _ _ _ _ h3 e
  · exact fun d e => Finite.projChange_real _ _ _ _ _ _ _ _ _ _ h4 d e
  · exact fun d e => Finite.projTime_real _ _ _ _ _ _ _ _ _ _ h5 d e

end Cert.Proof.Value

end
-- ==== Proof.lean ====
/-
  The certificate's claim, assembled: the two kernels and the reference run, leave their arguments as they were and every
  semaphore counter at zero; the idealized kernel is the kernel; and the idealized kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem

/-- The reference runs, leaves its arguments as they were and every semaphore counter at zero: it declares no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel's result is the reference's, where the tables that the precondition names are finite. -/
theorem algebraic : @Cert.algebraic_KernelIdeal_ReferenceIdeal_pre_tables_finite Cert.KernelIdeal.Gen.facts Cert.ReferenceIdeal.Gen.facts
    Finite.shapes := fun m ρ m' ρ' hpre hag =>
  ⟨fun c => Pipeline.afterTail₀ Cert.KernelIdeal.cfgs (Cert.KernelIdeal.Gen.dats m) 0 (Cert.KernelIdeal.Gen.V0 m)
      [Cert.KernelIdeal.Gen.hostOps1] c Cert.KernelIdeal.main_v16,
    (θ_run _ _ _).mono (fun r h c => ⟨(h.1 c).2 Cert.KernelIdeal.main_v16 (by decide), h.2.1 c⟩)
      (θ_run_and (Cert.KernelIdeal.Gen.run_main (F := Ideal) m ρ) (Cert.KernelIdeal.Gen.frame (F := Ideal) m ρ)),
    (θ_run _ _ _).mono (fun r h c => ⟨(h c).1.trans ((Cert.ReferenceIdeal.Read.val_main_v16_eq m' c).trans (by
      obtain ⟨e0, e1, e2, e3, e4, e5, e6, e7, e8, e9⟩ := hag c
      rw [e0, e1, e2, e3, e4, e5, e6, e7, e8, e9]
      exact (Value.value_eq m c hpre).symm)), (h c).2⟩) (Cert.ReferenceIdeal.Value.run (F := Ideal) m' ρ')⟩

/-- Everything that the certificate claims. -/
theorem claim : Cert.Claim :=
  ⟨Cert.Kernel.Gen.facts, Cert.KernelIdeal.Gen.facts, Cert.ReferenceIdeal.Gen.facts, Finite.shapes,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, algebraic⟩

end Cert.Proof

end
